-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_short [hPre_short : Cert.Pre_short.Facts] (m : (ℓ : Loc Cert.KernelIdeal.nD Cert.KernelIdeal.τ Cert.KernelIdeal.sig) → Buf (Elt Ideal) ℓ) : Prop :=
  ∀ c : Dev Cert.KernelIdeal.nD,
    (Cert.Pre_short.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_short [hPre_short : Cert.Pre_short.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_short.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_short [hKernelIdeal : Cert.KernelIdeal.Facts] [hPre_short : Cert.Pre_short.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_short m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_short [hReferenceIdeal : Cert.ReferenceIdeal.Facts] [hPre_short : Cert.Pre_short.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_short m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_short [hKernelIdeal : Cert.KernelIdeal.Facts] [hReferenceIdeal : Cert.ReferenceIdeal.Facts] [hPre_short : Cert.Pre_short.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_short m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_short : Cert.Pre_short.Facts),
    quiescent_Kernel (hKernel := hKernel)
    ∧ quiescent_KernelIdeal (hKernelIdeal := hKernelIdeal)
    ∧ quiescent_KernelIdeal_pre_short (hKernelIdeal := hKernelIdeal) (hPre_short := hPre_short)
    ∧ quiescent_ReferenceIdeal (hReferenceIdeal := hReferenceIdeal)
    ∧ quiescent_ReferenceIdeal_pre_short (hReferenceIdeal := hReferenceIdeal) (hPre_short := hPre_short)
    ∧ preserves_Kernel_KernelIdeal
    ∧ algebraic_KernelIdeal_ReferenceIdeal_pre_short (hKernelIdeal := hKernelIdeal) (hReferenceIdeal := hReferenceIdeal) (hPre_short := hPre_short)
-- ==== Pre_short.lean ====
abbrev S16x64x32x768 : Shape := ⟨4, ![16, 64, 32, 768]⟩
abbrev S16x32x768 : Shape := ⟨3, ![16, 32, 768]⟩
abbrev S16x32 : Shape := ⟨2, ![16, 32]⟩
abbrev S768x768 : Shape := ⟨2, ![768, 768]⟩
abbrev S768 : Shape := ⟨1, ![768]⟩
abbrev S768x1536 : Shape := ⟨2, ![768, 1536]⟩
abbrev S_ : Shape := ⟨0, ![]⟩

class Facts : Prop where
  bcast_S_S16x32 : S_.BroadcastsInDim S16x32 (![] : Fin 0 → Fin S16x32.rank)

variable [Facts]

def fn {F : FTy → Type} [FloatOps F] (main_arg0 : FVec F S16x64x32x768 .f32) (main_arg1 : FVec F S16x32x768 .f32) (main_arg2 : IVec S16x32 32) (main_arg3 : FVec F S768x768 .f32) (main_arg4 : FVec F S768x768 .f32) (main_arg5 : FVec F S768 .f32) (main_arg6 : FVec F S768 .f32) (main_arg7 : FVec F S768x1536 .f32) (main_arg8 : FVec F S768 .f32) : IVec S16x32 1 :=
  let main_c : IVec S_ 32 := constantI S_ 32 63#32
  let main_v0 : IVec S16x32 32 := broadcastInDim S16x32 ![] bcast_S_S16x32 main_c
  let main_v1 : IVec S16x32 1 := cmpi .sle main_arg2 main_v0
  main_v1
-- ==== Kernel.lean ====
abbrev S16x64x32x768 : Shape := ⟨4, ![16, 64, 32, 768]⟩
abbrev S16x32x768 : Shape := ⟨3, ![16, 32, 768]⟩
abbrev S16x32 : Shape := ⟨2, ![16, 32]⟩
abbrev S768x768 : Shape := ⟨2, ![768, 768]⟩
abbrev S768 : Shape := ⟨1, ![768]⟩
abbrev S768x1536 : Shape := ⟨2, ![768, 1536]⟩
abbrev S512x1 : Shape := ⟨2, ![512, 1]⟩
abbrev S1x768 : Shape := ⟨2, ![1, 768]⟩
abbrev S16x7x32x768 : Shape := ⟨4, ![16, 7, 32, 768]⟩
abbrev S512x768 : Shape := ⟨2, ![512, 768]⟩
abbrev S8x1x32x768 : Shape := ⟨4, ![8, 1, 32, 768]⟩
abbrev S8x32x768 : Shape := ⟨3, ![8, 32, 768]⟩
abbrev S256x768 : Shape := ⟨2, ![256, 768]⟩
abbrev S256x1 : Shape := ⟨2, ![256, 1]⟩

abbrev nBuf : Space → Nat
  | .hbm => 14
  | .vmem => 11
  | .smem => 0
  | _ => 0

abbrev bufTy : (tb : Table) → Fin (tcTables nBuf tb) → BufTy
  | .hbm, ⟨0, _⟩ => ⟨S16x64x32x768, .f32⟩
  | .hbm, ⟨1, _⟩ => ⟨S16x32x768, .f32⟩
  | .hbm, ⟨2, _⟩ => ⟨S16x32, .i32⟩
  | .hbm, ⟨3, _⟩ => ⟨S768x768, .f32⟩
  | .hbm, ⟨4, _⟩ => ⟨S768x768, .f32⟩
  | .hbm, ⟨5, _⟩ => ⟨S768, .f32⟩
  | .hbm, ⟨6, _⟩ => ⟨S768, .f32⟩
  | .hbm, ⟨7, _⟩ => ⟨S768x1536, .f32⟩
  | .hbm, ⟨8, _⟩ => ⟨S768, .f32⟩
  | .hbm, ⟨9, _⟩ => ⟨S512x1, .i32⟩
  | .hbm, ⟨10, _⟩ => ⟨S768, .f32⟩
  | .hbm, ⟨11, _⟩ => ⟨S1x768, .f32⟩
  | .hbm, ⟨12, _⟩ => ⟨S1x768, .f32⟩
  | .hbm, ⟨13, _⟩ => ⟨S16x32x768, .f32⟩
  | .local _ .vmem, ⟨0, _⟩ => ⟨S512x1, .i32⟩
  | .local _ .vmem, ⟨1, _⟩ => ⟨S16x7x32x768, .f32⟩
  | .local _ .vmem, ⟨2, _⟩ => ⟨S16x7x32x768, .f32⟩
  | .local _ .vmem, ⟨3, _⟩ => ⟨S16x32x768, .f32⟩
  | .local _ .vmem, ⟨4, _⟩ => ⟨S768x768, .f32⟩
  | .local _ .vmem, ⟨5, _⟩ => ⟨S768x768, .f32⟩
  | .local _ .vmem, ⟨6, _⟩ => ⟨S1x768, .f32⟩
  | .local _ .vmem, ⟨7, _⟩ => ⟨S768x1536, .f32⟩
  | .local _ .vmem, ⟨8, _⟩ => ⟨S1x768, .f32⟩
  | .local _ .vmem, ⟨9, _⟩ => ⟨S16x32x768, .f32⟩
  | .local _ .vmem, ⟨10, _⟩ => ⟨S512x768, .bf16⟩
  | _, _ => ⟨S16x64x32x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c8_i32 : BitVec 32 := 8#32
  let v345 : BitVec 1 := Scalar.cmpi .eq arg0 c8_i32
  let v346 : BitVec 32 := Scalar.extui v345
  let c0_i32_172 : BitVec 32 := 0#32
  let v347 : BitVec 1 := Scalar.cmpi .ne v346 c0_i32_172
  v347

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S512x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x7x32x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x32x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x32x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S16x64x32x768 : Shape := ⟨4, ![16, 64, 32, 768]⟩
abbrev S16x32x768 : Shape := ⟨3, ![16, 32, 768]⟩
abbrev S16x32 : Shape := ⟨2, ![16, 32]⟩
abbrev S768x768 : Shape := ⟨2, ![768, 768]⟩
abbrev S768 : Shape := ⟨1, ![768]⟩
abbrev S768x1536 : Shape := ⟨2, ![768, 1536]⟩
abbrev S64x16x32x768 : Shape := ⟨4, ![64, 16, 32, 768]⟩
abbrev S64x512x768 : Shape := ⟨3, ![64, 512, 768]⟩
abbrev S512 : Shape := ⟨1, ![512]⟩
abbrev S_ : Shape := ⟨0, ![]⟩
abbrev S512x768 : Shape := ⟨2, ![512, 768]⟩
abbrev S64 : Shape := ⟨1, ![64]⟩
abbrev S1x512x768 : Shape := ⟨3, ![1, 512, 768]⟩
abbrev S1 : Shape := ⟨1, ![1]⟩
abbrev S1x768 : Shape := ⟨2, ![1, 768]⟩
abbrev S512x1 : Shape := ⟨2, ![512, 1]⟩
abbrev S512x1536 : Shape := ⟨2, ![512, 1536]⟩
abbrev S1536x768 : Shape := ⟨2, ![1536, 768]⟩

abbrev nBuf : Space → Nat
  | .hbm => 60
  | .vmem => 0
  | .smem => 0
  | _ => 0

abbrev bufTy : (tb : Table) → Fin (tcTables nBuf tb) → BufTy
  | .hbm, ⟨0, _⟩ => ⟨S16x64x32x768, .f32⟩
  | .hbm, ⟨1, _⟩ => ⟨S16x32x768, .f32⟩
  | .hbm, ⟨2, _⟩ => ⟨S16x32, .i32⟩
  | .hbm, ⟨3, _⟩ => ⟨S768x768, .f32⟩
  | .hbm, ⟨4, _⟩ => ⟨S768x768, .f32⟩
  | .hbm, ⟨5, _⟩ => ⟨S768, .f32⟩
  | .hbm, ⟨6, _⟩ => ⟨S768, .f32⟩
  | .hbm, ⟨7, _⟩ => ⟨S768x1536, .f32⟩
  | .hbm, ⟨8, _⟩ => ⟨S768, .f32⟩
  | .hbm, ⟨9, _⟩ => ⟨S64x16x32x768, .f32⟩
  | .hbm, ⟨10, _⟩ => ⟨S64x512x768, .f32⟩
  | .hbm, ⟨11, _⟩ => ⟨S512, .i32⟩
  | .hbm, ⟨12, _⟩ => ⟨S_, .f32⟩
  | .hbm, ⟨13, _⟩ => ⟨S512x768, .f32⟩
  | .hbm, ⟨14, _⟩ => ⟨S64, .i32⟩
  | .hbm, ⟨15, _⟩ => ⟨S_, .i32⟩
  | .hbm, ⟨16, _⟩ => ⟨S64x512x768, .f32⟩
  | .hbm, ⟨17, _⟩ => ⟨S64, .i32⟩
  | .hbm, ⟨18, _⟩ => ⟨S768x768, .f32⟩
  | .hbm, ⟨19, _⟩ => ⟨S768, .f32⟩
  | .hbm, ⟨20, _⟩ => ⟨S768x768, .f32⟩
  | .hbm, ⟨21, _⟩ => ⟨S768, .f32⟩
  | .hbm, ⟨22, _⟩ => ⟨S512, .i32⟩
  | .hbm, ⟨23, _⟩ => ⟨S_, .i32⟩
  | .hbm, ⟨24, _⟩ => ⟨S512x768, .f32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S1x512x768, .f32⟩
  | .hbm, ⟨30, _⟩ => ⟨S512x768, .f32⟩
  | .hbm, ⟨31, _⟩ => ⟨S1, .i32⟩
  | .hbm, ⟨32, _⟩ => ⟨S_, .i32⟩
  | .hbm, ⟨33, _⟩ => ⟨S768x768, .f32⟩
  | .hbm, ⟨34, _⟩ => ⟨S512x768, .f32⟩
  | .hbm, ⟨35, _⟩ => ⟨S1x768, .f32⟩
  | .hbm, ⟨36, _⟩ => ⟨S512x768, .f32⟩
  | .hbm, ⟨37, _⟩ => ⟨S512x768, .f32⟩
  | .hbm, ⟨38, _⟩ => ⟨S768x768, .f32⟩
  | .hbm, ⟨39, _⟩ => ⟨S512x768, .f32⟩
  | .hbm, ⟨40, _⟩ => ⟨S512x768, .f32⟩
  | .hbm, ⟨41, _⟩ => ⟨S1x768, .f32⟩
  | .hbm, ⟨42, _⟩ => ⟨S512x768, .f32⟩
  | .hbm, ⟨43, _⟩ => ⟨S512x768, .f32⟩
  | .hbm, ⟨44, _⟩ => ⟨S512x768, .f32⟩
  | .hbm, ⟨45, _⟩ => ⟨S512, .i32⟩
  | .hbm, ⟨46, _⟩ => ⟨S512, .i1⟩
  | .hbm, ⟨47, _⟩ => ⟨S512x1, .i1⟩
  | .hbm, ⟨48, _⟩ => ⟨S512x768, .i1⟩
  | .hbm, ⟨49, _⟩ => ⟨S512x768, .f32⟩
  | .hbm, ⟨50, _⟩ => ⟨S_, .i32⟩
  | .hbm, ⟨51, _⟩ => ⟨S_, .i32⟩
  | .hbm, ⟨52, _⟩ => ⟨S512x768, .f32⟩
  | .hbm, ⟨53, _⟩ => ⟨S512x1536, .f32⟩
  | .hbm, ⟨54, _⟩ => ⟨S1536x768, .f32⟩
  | .hbm, ⟨55, _⟩ => ⟨S512x768, .f32⟩
  | .hbm, ⟨56, _⟩ => ⟨S1x768, .f32⟩
  | .hbm, ⟨57, _⟩ => ⟨S512x768, .f32⟩
  | .hbm, ⟨58, _⟩ => ⟨S512x768, .f32⟩
  | .hbm, ⟨59, _⟩ => ⟨S16x32x768, .f32⟩
  | _, _ => ⟨S16x64x32x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev main_v5_3 : Ref sig .tc := ⟨.hbm, 19, rfl⟩
abbrev main_v5_4 : Ref sig .tc := ⟨.hbm, 20, rfl⟩
abbrev main_v5_5 : Ref sig .tc := ⟨.hbm, 21, rfl⟩
abbrev main_v5_6 : Ref sig .tc := ⟨.hbm, 22, rfl⟩
abbrev main_v5_7 : Ref sig .tc := ⟨.hbm, 23, rfl⟩
abbrev main_v5_8 : Ref sig .tc := ⟨.hbm, 24, rfl⟩
abbrev main_while0c_c_8 : Ref sig .tc := ⟨.hbm, 25, rfl⟩
abbrev main_while0c_v14 : Ref sig .tc := ⟨.hbm, 26, rfl⟩
abbrev main_while0b_call0_c : Ref sig .tc := ⟨.hbm, 27, rfl⟩
abbrev main_while0b_call0_c_0 : Ref sig .tc := ⟨.hbm, 28, rfl⟩
abbrev main_while0b_call0_v0 : Ref sig .tc := ⟨.hbm, 29, rfl⟩
abbrev main_while0b_v14 : Ref sig .tc := ⟨.hbm, 30, rfl⟩
abbrev main_while0b_call1_v0 : Ref sig .tc := ⟨.hbm, 31, rfl⟩
abbrev main_while0b_v15 : Ref sig .tc := ⟨.hbm, 32, rfl⟩
abbrev main_while0b_v16 : Ref sig .tc := ⟨.hbm, 33, rfl⟩
abbrev main_while0b_v17 : Ref sig .tc := ⟨.hbm, 34, rfl⟩
abbrev main_while0b_v18 : Ref sig .tc := ⟨.hbm, 35, rfl⟩
abbrev main_while0b_v19 : Ref sig .tc := ⟨.hbm, 36, rfl⟩
abbrev main_while0b_v20 : Ref sig .tc := ⟨.hbm, 37, rfl⟩
abbrev main_while0b_v21 : Ref sig .tc := ⟨.hbm, 38, rfl⟩
abbrev main_while0b_v22 : Ref sig .tc := ⟨.hbm, 39, rfl⟩
abbrev main_while0b_v23 : Ref sig .tc := ⟨.hbm, 40, rfl⟩
abbrev main_while0b_v24 : Ref sig .tc := ⟨.hbm, 41, rfl⟩
abbrev main_while0b_v25 : Ref sig .tc := ⟨.hbm, 42, rfl⟩
abbrev main_while0b_v26 : Ref sig .tc := ⟨.hbm, 43, rfl⟩
abbrev main_while0b_v27 : Ref sig .tc := ⟨.hbm, 44, rfl⟩
abbrev main_while0b_v28 : Ref sig .tc := ⟨.hbm, 45, rfl⟩
abbrev main_while0b_v29 : Ref sig .tc := ⟨.hbm, 46, rfl⟩
abbrev main_while0b_v30 : Ref sig .tc := ⟨.hbm, 47, rfl⟩
abbrev main_while0b_call2_v0 : Ref sig .tc := ⟨.hbm, 48, rfl⟩
abbrev main_while0b_v31 : Ref sig .tc := ⟨.hbm, 49, rfl⟩
abbrev main_while0b_c_8 : Ref sig .tc := ⟨.hbm, 50, rfl⟩
abbrev main_while0b_v32 : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩

abbrev nD : Nat := 1
abbrev τ : Topo := Topo.v7x

variable {F : FTy → Type} [FloatOps F]

abbrev main_while0_count : Scf.Loop 32 := ⟨0#32, 64#32, 1#32⟩
-- ==== Proof.KernelPoint.lean ====
module

public import proofs.«01_k».proof.Proof.Gen.KernelIdeal.Value
public import Idealize.ShloMosaic.Lib.Pipeline.ReadBack

/-! What one grid point does to the hidden state it carries: seven recurrence steps, taken separately on the
two halves of 256 rows, each step one and the same function of the half it starts from. -/

@[expose] public section

set_option maxRecDepth 16384

open Idealize.ShloMosaic Idealize.ShloMosaic.TcCoe Idealize.ShloMosaic.Tactic
open Cert.KernelIdeal Cert.KernelIdeal.Gen

namespace Cert.Rnn

noncomputable section

variable {F : FTy → Type} [FloatOps F]

/-- Half `g` of the hidden state is rows `256 g` to `256 g + 255`, and lies inside it. -/
theorem half_inb (g : Fin 2) : ∀ a, (![256 * g.val, 0] : Fin 2 → ℕ) a + S256x768.size a ≤ S512x768.size a := by
  revert g; decide

/-- The part of the utterances' block that step `k` reads for half `g` lies inside the block. -/
theorem slab_inb (g : Fin 2) (k : Fin 7) :
    ∀ a, (![8 * g.val, k.val, 0, 0] : Fin 4 → ℕ) a + S8x1x32x768.size a ≤ S16x7x32x768.size a := by
  revert g k; decide

/-- The lengths' column has the rows of half `g`. -/
theorem lens_slices (g : Fin 2) : S512x1.Slices ![256 * g.val, 0] S256x1 := by
  revert g; decide

/-- The rows of half `g`. -/
abbrev half (g : Fin 2) : Rect S512x768 := Rect.unit (s := S512x768) ![256 * g.val, 0] S256x768.size (half_inb g)

/-- The lengths of the rows of half `g`. -/
def lensOf (g : Fin 2) (lens : IVec S512x1 32) : IVec S256x1 32 :=
  extractStridedSlice S256x1 ![256 * g.val, 0] (shapeCast S512x1 lens shapeCasts_S512x1_S512x1) (lens_slices g)

/-- What step `k` of a point reads of the utterances for half `g`. -/
def slab (g : Fin 2) (k : Fin 7) (u : Vec F S16x7x32x768 .f32) : Vec F S8x1x32x768 .f32 :=
  View.ld u (Rect.unit (s := S16x7x32x768) ![8 * g.val, k.val, 0, 0] S8x1x32x768.size (slab_inb g k))

/-- One step of the recurrence on a half `h` at time `tt`: rows whose length exceeds the time get
`tanh (x W_ihᵀ + h W_hhᵀ + b)`, the others keep what they had. -/
def halfStep (tt : BitVec 32) (lens : IVec S256x1 32) (wih whh : Vec F S768x768 .f32) (b : Vec F S1x768 .f32)
    (x : Vec F S8x1x32x768 .f32) (h : FVec F S256x768 .bf16) : FVec F S256x768 .bf16 :=
  shapeCast S256x768
    (select
      (broadcastTo S256x768
        (shapeCast S256x1 (cmpi .sgt lens (broadcast S256x1 tt)) shapeCasts_S256x1_S256x1)
        broadcasts_S256x1_S256x768)
      (truncf .bf16
        (tanh
          (addf
            (addf
              (matmul dot_S256x768_S768x768_S256x768_1_1_0_0_n_n none
                (truncf .bf16
                  (shapeCast S256x768 (shapeCast S8x32x768 x shapeCasts_S8x1x32x768_S8x32x768)
                    shapeCasts_S8x32x768_S256x768)
                  bitsLt_bf16_f32)
                (truncf .bf16 wih bitsLt_bf16_f32) (constant S256x768 .f32 0x00000000#32))
              (matmul dot_S256x768_S768x768_S256x768_1_1_0_0_n_n none h (truncf .bf16 whh bitsLt_bf16_f32)
                (constant S256x768 .f32 0x00000000#32)))
            (broadcastTo S256x768 (shapeCast S1x768 b shapeCasts_S1x768_S1x768) broadcasts_S1x768_S256x768)))
        bitsLt_bf16_f32)
      h)
    shapeCasts_S256x768_S256x768

/-- The time of step `k` at grid coordinate `p`, as the kernel computes it. -/
def timeOf (p : BitVec 32) (k : Fin 7) : BitVec 32 := Scalar.addi (Scalar.muli p 7#32) (BitVec.ofNat 32 k.val)

/-- Half `g` of the hidden state after the first `k` steps of a point that finds the state `h`. -/
def halfAfter (p : BitVec 32) (lens : IVec S512x1 32) (u : Vec F S16x7x32x768 .f32) (wih whh : Vec F S768x768 .f32)
    (b : Vec F S1x768 .f32) (h : Vec F S512x768 .bf16) (g : Fin 2) : (k : ℕ) → k ≤ 7 → FVec F S256x768 .bf16
  | 0, _ => View.ld h (half g)
  | k + 1, hk =>
    halfStep (timeOf p ⟨k, hk⟩) (lensOf g lens) wih whh b (slab g ⟨k, hk⟩ u)
      (halfAfter p lens u wih whh b h g k (Nat.le_of_succ_le hk))

/-- The hidden state the point leaves: its two halves after seven steps. -/
def pointState (p : BitVec 32) (lens : IVec S512x1 32) (u : Vec F S16x7x32x768 .f32) (wih whh : Vec F S768x768 .f32)
    (b : Vec F S1x768 .f32) (h : Vec F S512x768 .bf16) : Vec F S512x768 .bf16 :=
  View.canon [⟨half 1, halfAfter p lens u wih whh b h 1 7 le_rfl⟩, ⟨half 0, halfAfter p lens u wih whh b h 0 7 le_rfl⟩]

/-- Of writes whose last two hold every index between them, those two alone are seen. -/
theorem canon_two {s : Shape} {e : EltTy} (r₁ r₀ : Rect s) (hr : ∀ y, y ∉ r₁.set → y ∈ r₀.set)
    (w₁ : r₁.shape.Idx → Elt F e) (w₀ : r₀.shape.Idx → Elt F e) (L : List (View.Piece (Elt F) s e)) :
    View.canon (⟨r₁, w₁⟩ :: ⟨r₀, w₀⟩ :: L) = View.canon [⟨r₁, w₁⟩, ⟨r₀, w₀⟩] := by
  funext y
  by_cases h₁ : y ∈ r₁.set
  · obtain ⟨x, rfl⟩ : ∃ x, r₁.emb x = y := r₁.exists_idx_of_mem h₁
    rw [View.canon_cons_emb, View.canon_cons_emb]
  · obtain ⟨x, rfl⟩ : ∃ x, r₀.emb x = y := r₀.exists_idx_of_mem (hr y h₁)
    rw [View.canon_cons_of_not_mem ⟨r₁, w₁⟩ _ h₁, View.canon_cons_of_not_mem ⟨r₁, w₁⟩ _ h₁, View.canon_cons_emb,
      View.canon_cons_emb]

/-- A load of the whole buffer after such writes reads those two. -/
theorem readCov_two {κ : Kind} {sp : Space} {s : Shape} {e : EltTy} (v : View sig κ sp s e)
    (r₁ r₀ : Rect s) (hr : ∀ y, y ∉ r₁.set → y ∈ r₀.set)
    (w₁ : r₁.shape.Idx → Elt F e) (w₀ : r₀.shape.Idx → Elt F e) (L : List (View.Piece (Elt F) s e))
    {off : Fin s.rank → ℕ} (h0 : ∀ a, off a = 0) (inb : ∀ a, off a + s.size a ≤ s.size a) :
    v.readCov (⟨r₁, w₁⟩ :: ⟨r₀, w₀⟩ :: L) (Rect.unit off s.size inb).toLoadRect
      = View.canon [⟨r₁, w₁⟩, ⟨r₀, w₀⟩] := by
  rw [View.readCov_eq_canon', canon_two r₁ r₀ hr]
  exact View.ld_unit_lit inb _ h0

/-- A row that is not in the second half is in the first. -/
theorem mem_half_zero (y : S512x768.Idx) (h : y ∉ (half 1).set) : y ∈ (half 0).set := by
  have hy : (y 0).val < 512 := (y 0).isLt
  have hz : (y 1).val < 768 := (y 1).isLt
  rw [Rect.mem_set_unit] at h ⊢
  by_contra h'
  apply h
  intro a
  match a with
  | 0 =>
    refine ⟨?_, hy⟩
    by_contra hlt
    apply h'
    intro a
    match a with
    | 0 => exact ⟨Nat.zero_le _, by simpa using hlt⟩
    | 1 => exact ⟨Nat.zero_le _, hz⟩
  | 1 => exact ⟨Nat.zero_le _, hz⟩

variable (m : (ℓ : Loc nD τ sig) → Buf (Elt F) ℓ)

/-- At a point that neither starts nor ends the grid, the state left is seven steps of the one found. -/
theorem state_B (c : Dev nD) (t : Fin cfg0.N) (hc0 : ¬cond0_0 (grid0.coords t)) (hc1 : ¬cond0_1 (grid0.coords t))
   (xs0 : Vec F S512x768 .bf16) :
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (X0_1 m c t) (iblk m c 2 t) (iblk m c 3 t) (iblk m c 4 t) (iblk m c 5 t) (iblk m c 6 t) (iblk m c 7 t) xs0
    = pointState (BitVec.ofNat 32 (grid0.coords t 0)) (iblk m c 0 t) (X0_1 m c t) (iblk m c 3 t) (iblk m c 4 t) (iblk m c 5 t) xs0 := by
  unfold sout0_B_0
  rw [View.read_writes_eq_canon _ _ _ (scover0_B_0 c _ _ _ _ _ _ _ _ _ _ _ _ _ _ _ _ _ _ _ _ _ _ _ _ _ _ _ _ _ _ _ _)]
  unfold kernelRun0_B
  dsimp only
  sl_unfold_words
  simp (disch := decide) only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (Memref.isWhole_whole _).read_unread,
    ↓View.readCov_cons_toLoadRect, ↓View.readCov_skip, View.ld_unit_lit]
  exact (canon_two _ _ mem_half_zero _ _ _).trans rfl

/-- At the first point the state found is the zeros it has just been filled with. -/
theorem state_A (c : Dev nD) (t : Fin cfg0.N) (hc0 : cond0_0 (grid0.coords t)) (hc1 : ¬cond0_1 (grid0.coords t)) :
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (X0_1 m c t) (iblk m c 2 t) (iblk m c 3 t) (iblk m c 4 t) (iblk m c 5 t) (iblk m c 6 t) (iblk m c 7 t)
    = pointState (BitVec.ofNat 32 (grid0.coords t 0)) (iblk m c 0 t) (X0_1 m c t) (iblk m c 3 t) (iblk m c 4 t) (iblk m c 5 t) k0_pay3 := by
  unfold sout0_A_0
  rw [View.read_writes_eq_canon _ _ _ (scover0_A_0 c _ _ _ _ _ _ _ _ _ _ _ _ _ _ _ _ _ _ _ _ _ _ _ _ _ _ _ _ _ _ _)]
  unfold kernelRun0_A
  dsimp only
  sl_unfold_words
  simp (disch := decide) only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (Memref.isWhole_whole _).read_unread,
    ↓View.readCov_cons_toLoadRect, ↓View.readCov_skip, View.readCov_fill, View.ld_unit_lit]
  exact (canon_two _ _ mem_half_zero _ _ _).trans rfl

/-- At the last point the output is the final projection of the state it leaves. -/
theorem output_C (c : Dev nD) (t : Fin cfg0.N) (hc0 : ¬cond0_0 (grid0.coords t)) (hc1 : cond0_1 (grid0.coords t))
   (xs0 : Vec F S512x768 .bf16) :
   out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (X0_1 m c t) (iblk m c 2 t) (iblk m c 3 t) (iblk m c 4 t) (iblk m c 5 t) (iblk m c 6 t) (iblk m c 7 t) xs0
    = k0_pay2 (pointState (BitVec.ofNat 32 (grid0.coords t 0)) (iblk m c 0 t) (X0_1 m c t) (iblk m c 3 t) (iblk m c 4 t) (iblk m c 5 t) xs0)
        (View.ld (iblk m c 6 t) (Rect.unit (s := S768x1536) ![0, 0] S768x768.size inb_S768x1536_S768x768_0_0))
        (View.ld (iblk m c 6 t) (Rect.unit (s := S768x1536) ![0, 768] S768x768.size inb_S768x1536_S768x768_0_768))
        (iblk m c 2 t) (iblk m c 7 t) := by
  unfold out0_C_8
  rw [View.read_writes_eq_canon _ _ _ (cover0_C_8 c _ _ _ _ _ _ _ _ _ _ _ _ _ _ _ _ _ _ _ _ _ _ _ _ _ _ _ _ _ _ _ _)]
  unfold kernelRun0_C
  dsimp only
  sl_unfold_words
  simp (disch := decide) only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (Memref.isWhole_whole _).read_unread,
    ↓View.readCov_cons_toLoadRect, ↓View.readCov_skip, View.ld_unit_lit, View.canon_cons_unit_lit]
  exact congrArg (fun h => k0_pay2 h _ _ _ _) ((readCov_two _ _ _ mem_half_zero _ _ _ (by decide) _).trans rfl)

end

end Cert.Rnn
-- ==== Proof.Spec.lean ====
module

public import proofs.«01_k».proof.Proof.Gen.KernelIdeal.Value
public import Idealize.ShloMosaic.Lib.Pointwise

/-! The recurrence both programs compute, over the extended reals: the hidden state of each of the 512 rows after
each number of steps, and the projection of the last one. -/

@[expose] public section

open Idealize.ShloMosaic

namespace Cert.Rnn

open Cert.KernelIdeal

noncomputable section

/-- The argument arrays: utterances, descriptors, lengths, the two weight matrices, the two biases, and the weights
and bias of the final projection. -/
structure Args where
  u : S16x64x32x768.Idx → EReal
  d : S16x32x768.Idx → EReal
  len : S16x32.Idx → BitVec 32
  wih : S768x768.Idx → EReal
  whh : S768x768.Idx → EReal
  bih : S768.Idx → EReal
  bhh : S768.Idx → EReal
  lw : S768x1536.Idx → EReal
  lb : S768.Idx → EReal

namespace Args

variable (A : Args)

/-- The batch entry a row of the state belongs to. -/
def batchOf (n : Fin 512) : Fin 16 := ⟨n.val / 32, by omega⟩

/-- The place of the row within its batch entry. -/
def placeOf (n : Fin 512) : Fin 32 := ⟨n.val % 32, by omega⟩

/-- The length of row `n`. -/
def lenOf (n : Fin 512) : BitVec 32 := A.len (ix2 (batchOf n) (placeOf n))

/-- The input row `n` reads at time `k`. -/
def input (k : ℕ) (n : Fin 512) (f : Fin 768) : EReal := A.u (ix4 (batchOf n) (Fin.ofNat 64 k) (placeOf n) f)

/-- The hidden state after `k` steps: zero at first; step `k` replaces the rows longer than `k` and keeps the others. -/
def hid : ℕ → Fin 512 → Fin 768 → EReal
  | 0, _, _ => 0
  | k + 1, n, j =>
    Scalar.select (IntOp.cmpi .sgt (A.lenOf n) (BitVec.ofNat 32 k))
      (Ideal.tanh (∑ f, A.input k n f * A.wih (ix2 j f) + A.bih (ix1 j)
        + ∑ f, hid k n f * A.whh (ix2 j f) + A.bhh (ix1 j)))
      (hid k n j)

/-- The hidden state after `k` steps, as an array. -/
def hidV (k : ℕ) : Vec Ideal S512x768 .bf16 := fun i => A.hid k (i 0) (i 1)

/-- The result at batch entry `b`, place `l` and feature `j`, from a hidden state. -/
def project (h : Fin 512 → Fin 768 → EReal) (b : Fin 16) (l : Fin 32) (j : Fin 768) : EReal :=
  ∑ f, h ⟨b.val * 32 + l.val, by omega⟩ f * A.lw (ix2 j ⟨f.val, by omega⟩)
    + ∑ f : Fin 768, A.d (ix3 b l f) * A.lw (ix2 j ⟨768 + f.val, by omega⟩) + A.lb (ix1 j)

/-- The result from a hidden state, as an array. -/
def projectV (h : Fin 512 → Fin 768 → EReal) : Vec Ideal S16x32x768 .f32 := fun i => A.project h (i 0) (i 1) (i 2)

/-- A step later than every length changes nothing. -/
theorem hid_succ_of_le (k : ℕ) (n : Fin 512) (h : (A.lenOf n).toInt ≤ k) (hk : k < 2 ^ 31) (j : Fin 768) :
    A.hid (k + 1) n j = A.hid k n j := by
  have hc : IntOp.cmpi .sgt (A.lenOf n) (BitVec.ofNat 32 k) = 0#1 := by
    have hi : (BitVec.ofNat 32 k).toInt = k := by
      rw [BitVec.toInt_eq_toNat_of_lt (by rw [BitVec.toNat_ofNat]; omega), BitVec.toNat_ofNat]; omega
    have hs : (BitVec.ofNat 32 k).slt (A.lenOf n) = false := by
      rw [BitVec.slt, decide_eq_false_iff_not, hi]; omega
    simp only [IntOp.cmpi, hs]; rfl
  rw [hid, hc]; rfl

end Args

end

end Cert.Rnn
-- ==== Proof.KernelMath.lean ====
module

public import proofs.«01_k».proof.Proof.KernelPoint
public import proofs.«01_k».proof.Proof.Spec

/-! One grid point of the kernel takes the hidden state seven steps of the recurrence further. -/

@[expose] public section

set_option maxRecDepth 16384

open Idealize.ShloMosaic Idealize.ShloMosaic.TcCoe Idealize.ShloMosaic.Tactic
open Cert.KernelIdeal Cert.KernelIdeal.Gen

namespace Cert.Rnn

noncomputable section

/-- The kernel's word for the time is the number `7 p + k`. -/
theorem timeOf_eq (p : ℕ) (k : Fin 7) : timeOf (BitVec.ofNat 32 p) k = BitVec.ofNat 32 (7 * p + k.val) := by
  rw [timeOf, Nat.mul_comm, BitVec.ofNat_add, BitVec.ofNat_mul]; rfl

variable (A : Args)

/-- What the blocks a point finds hold of the arguments: the lengths as a column, seven times' utterances, the
weights, and the sum of the biases as a row. -/
structure Blocks (p : ℕ) (lens : IVec S512x1 32) (u : Vec Ideal S16x7x32x768 .f32) (wih whh : Vec Ideal S768x768 .f32)
    (b : Vec Ideal S1x768 .f32) : Prop where
  lens : ∀ n, lens (ix2 n 0) = A.lenOf n
  u : ∀ i k l f, u (ix4 i k l f) = A.u (ix4 i (Fin.ofNat 64 (7 * p + k.val)) l f)
  wih : wih = A.wih
  whh : whh = A.whh
  b : ∀ j, b (ix2 0 j) = A.bih (ix1 j) + A.bhh (ix1 j)

variable {A} {p : ℕ} {lens : IVec S512x1 32} {u : Vec Ideal S16x7x32x768 .f32} {wih whh : Vec Ideal S768x768 .f32}
    {b : Vec Ideal S1x768 .f32}

/-- The step at one row and feature, the biases added together or one after the other. -/
theorem step_row (B : Blocks A p lens u wih whh b) (g : Fin 2) (k : Fin 7) (r : Fin 256) (j : Fin 768) :
    Scalar.select
        (IntOp.cmpi .sgt (lens (ix2 ⟨256 * g.val + r.val, by omega⟩ 0)) (BitVec.ofNat 32 (7 * p + k.val)))
        (Ideal.tanh
          (∑ f, u (ix4 ⟨8 * g.val + r.val / 32, by omega⟩ k ⟨r.val % 32, by omega⟩ f) * wih (ix2 j f)
            + ∑ f, A.hid (7 * p + k.val) ⟨256 * g.val + r.val, by omega⟩ f * whh (ix2 j f) + b (ix2 0 j)))
        (A.hid (7 * p + k.val) ⟨256 * g.val + r.val, by omega⟩ j)
      = A.hid (7 * p + k.val + 1) ⟨256 * g.val + r.val, by omega⟩ j := by
  have hb : (⟨8 * g.val + r.val / 32, by omega⟩ : Fin 16) = Args.batchOf ⟨256 * g.val + r.val, by omega⟩ :=
    Fin.ext (by simp only [Args.batchOf]; omega)
  have hl : (⟨r.val % 32, by omega⟩ : Fin 32) = Args.placeOf ⟨256 * g.val + r.val, by omega⟩ :=
    Fin.ext (by simp only [Args.placeOf]; omega)
  rw [Args.hid, B.lens, B.b, B.wih, B.whh, hb, hl]
  congr 2
  simp only [B.u, Args.input]
  rw [add_add_add_comm, ← add_assoc]

/-- A half's step at step `k` of the point is step `7 p + k` of the recurrence on the half's rows. -/
theorem halfStep_hid (B : Blocks A p lens u wih whh b) (g : Fin 2) (k : Fin 7) :
    halfStep (timeOf (BitVec.ofNat 32 p) k) (lensOf g lens) wih whh b (slab g k u) (View.ld (e' := .bf16) (A.hidV (7 * p + k.val)) (half g))
      = View.ld (A.hidV (7 * p + k.val + 1)) (half g) := by
  funext i
  rw [timeOf_eq]
  pointwise [halfStep, lensOf, slab, half, Args.hidV]
  exact step_row B g k (i 0) (i 1)

/-- So the half after `k` steps is the recurrence's. -/
theorem halfAfter_hid (B : Blocks A p lens u wih whh b) (g : Fin 2) : ∀ (k : ℕ) (hk : k ≤ 7),
    halfAfter (BitVec.ofNat 32 p) lens u wih whh b (A.hidV (7 * p)) g k hk = View.ld (A.hidV (7 * p + k)) (half g)
  | 0, _ => rfl
  | k + 1, hk => by
    rw [halfAfter, halfAfter_hid B g k]
    exact halfStep_hid B g ⟨k, hk⟩

/-- Two writes of one array's own parts that hold every index between them leave that array. -/
theorem canon_two_ld {F : FTy → Type} [FloatOps F] {s : Shape} {e : EltTy} (r₁ r₀ : Rect s)
    (hr : ∀ y, y ∉ r₁.set → y ∈ r₀.set) (G : s.Idx → Elt F e) :
    View.canon [⟨r₁, View.ld G r₁⟩, ⟨r₀, View.ld G r₀⟩] = G := by
  funext y
  by_cases h₁ : y ∈ r₁.set
  · obtain ⟨x, rfl⟩ : ∃ x, r₁.emb x = y := r₁.exists_idx_of_mem h₁
    exact View.canon_cons_emb _ _ _ _
  · obtain ⟨x, rfl⟩ : ∃ x, r₀.emb x = y := r₀.exists_idx_of_mem (hr y h₁)
    rw [View.canon_cons_of_not_mem ⟨r₁, _⟩ _ h₁]
    exact View.canon_cons_emb _ _ _ _

/-- So the state a point leaves is the recurrence's, seven steps after the one it found. -/
theorem pointState_hid (B : Blocks A p lens u wih whh b) :
    pointState (BitVec.ofNat 32 p) lens u wih whh b (A.hidV (7 * p)) = A.hidV (7 * p + 7) := by
  rw [pointState, halfAfter_hid B, halfAfter_hid B]
  exact canon_two_ld (F := Ideal) (e := .bf16) _ _ mem_half_zero _

/-- The zeros the first point fills the state with are the recurrence's start. -/
theorem fill_hid : k0_pay3 (F := Ideal) = A.hidV 0 := by
  funext i
  pointwise [k0_pay3, Args.hidV, Args.hid]

/-- The kernel's last operation is the final projection. -/
theorem output_project (h : Fin 512 → Fin 768 → EReal) (lw : Vec Ideal S768x1536 .f32) (hlw : lw = A.lw)
    (d : Vec Ideal S16x32x768 .f32) (hd : d = A.d) (lb : Vec Ideal S1x768 .f32) (hlb : ∀ j, lb (ix2 0 j) = A.lb (ix1 j)) :
    k0_pay2 (F := Ideal) (fun i => h (i 0) (i 1))
        (View.ld lw (Rect.unit (s := S768x1536) ![0, 0] S768x768.size inb_S768x1536_S768x768_0_0))
        (View.ld lw (Rect.unit (s := S768x1536) ![0, 768] S768x768.size inb_S768x1536_S768x768_0_768)) d lb
      = A.projectV h := by
  subst hlw hd
  funext i
  pointwise [k0_pay2]
  exact congrArg (_ + ·) (hlb _)

end

end Cert.Rnn
-- ==== Proof.KernelBlocks.lean ====
module

public import proofs.«01_k».proof.Proof.KernelMath
public import Idealize.ShloMosaic.Lib.Pipeline.ValueKit

/-! What each grid point's blocks hold of the argument arrays. -/

@[expose] public section

set_option maxRecDepth 16384

open Idealize.ShloMosaic Idealize.ShloMosaic.TcCoe Idealize.ShloMosaic.Tactic
open Cert.KernelIdeal Cert.KernelIdeal.Gen

namespace Cert.Rnn

noncomputable section

variable (m : (ℓ : Loc nD τ sig) → Buf (Elt Ideal) ℓ)

/-- The argument arrays the kernel is launched on. -/
def argsOf (c : Dev nD) : Args where
  u := m (c.tc.loc main_arg0)
  d := m (c.tc.loc main_arg1)
  len := m (c.tc.loc main_arg2)
  wih := m (c.tc.loc main_arg3)
  whh := m (c.tc.loc main_arg4)
  bih := m (c.tc.loc main_arg5)
  bhh := m (c.tc.loc main_arg6)
  lw := m (c.tc.loc main_arg7)
  lb := m (c.tc.loc main_arg8)

/-- Every window but the utterances' stages its whole array at every point; that one moves along the times. -/
theorem index_of : ∀ t : Fin cfg0.N, (∀ a, win0_0.index t a = 0) ∧ (∀ a, win0_2.index t a = 0)
    ∧ (∀ a, win0_3.index t a = 0) ∧ (∀ a, win0_4.index t a = 0) ∧ (∀ a, win0_5.index t a = 0)
    ∧ (∀ a, win0_6.index t a = 0) ∧ (∀ a, win0_7.index t a = 0) ∧ win0_1.index t = ![0, t.val, 0, 0] :=
  (by decide +kernel : ∀ t : Fin grid0.N, _)

/-- The grid coordinate of point `t` is `t`. -/
theorem coord_of : ∀ t : Fin cfg0.N, (grid0.coords t 0).val = t.val :=
  (by decide +kernel : ∀ t : Fin grid0.N, _)

variable (c : Dev nD) (t : Fin cfg0.N)

/-- The block of descriptors is the descriptors. -/
theorem block_d : (iblk m c 2 t : Vec Ideal S16x32x768 .f32) = (argsOf m c).d := by
  unfold argsOf
  funext i
  blk_ext! [iblk, V, index_of t]

/-- The block of projection weights is the weights. -/
theorem block_lw : (iblk m c 6 t : Vec Ideal S768x1536 .f32) = (argsOf m c).lw := by
  unfold argsOf
  funext i
  blk_ext! [iblk, V, index_of t]

/-- The block of the projection's bias is the bias as a row. -/
theorem block_lb (j : Fin 768) : (iblk m c 7 t : Vec Ideal S1x768 .f32) (ix2 0 j) = (argsOf m c).lb (ix1 j) := by
  unfold argsOf
  blk_simp [iblk, V, index_of t]
  entry_read
  pointwise
  blk_point [index_of t]

/-- What the recurrence reads of a point's blocks. -/
theorem blocks_of :
    Blocks (argsOf m c) t.val (iblk m c 0 t) (X0_1 m c t) (iblk m c 3 t) (iblk m c 4 t) (iblk m c 5 t) where
  lens n := by
    unfold argsOf Args.lenOf Args.batchOf Args.placeOf
    blk_simp [iblk, V, index_of t]
    entry_read
    pointwise
    blk_ext! [index_of t]
  u i k l f := by
    unfold argsOf X0_1
    rw [Pipeline.Window.fill, dif_pos (moved0_1 _ _)]
    unfold iblk
    rw [V_main_arg0]
    have hm : t.val * 7 + k.val = (Fin.ofNat 64 (7 * t.val + k.val)).val := by
      have ht : t.val < 9 := lt_of_lt_of_eq t.isLt N_0
      rw [Fin.val_ofNat, Nat.mod_eq_of_lt (by omega), Nat.mul_comm]
    blk_ext! [index_of t]
  wih := by
    unfold argsOf
    funext i
    blk_ext! [iblk, V, index_of t]
  whh := by
    unfold argsOf
    funext i
    blk_ext! [iblk, V, index_of t]
  b j := by
    unfold argsOf
    blk_simp [iblk, V, index_of t]
    entry_read
    pointwise
    blk_point [index_of t]

end

end Cert.Rnn
-- ==== Proof.KernelValue.lean ====
module

public import proofs.«01_k».proof.Proof.KernelBlocks

/-! The kernel's result: the projection of the hidden state after 63 steps. -/

@[expose] public section

set_option maxRecDepth 16384

open Idealize.ShloMosaic Idealize.ShloMosaic.TcCoe Idealize.ShloMosaic.Tactic
open Cert.KernelIdeal Cert.KernelIdeal.Gen

namespace Cert.Rnn

noncomputable section

variable (m : (ℓ : Loc nD τ sig) → Buf (Elt Ideal) ℓ) (c : Dev nD)

/-- A point that finds the state after `7 t` steps leaves the state after `7 t + 7`. -/
theorem point_hid (t : Fin cfg0.N) :
    pointState (BitVec.ofNat 32 (grid0.coords t 0)) (iblk m c 0 t) (X0_1 m c t) (iblk m c 3 t) (iblk m c 4 t)
        (iblk m c 5 t) ((argsOf m c).hidV (7 * t.val))
      = (argsOf m c).hidV (7 * t.val + 7) := by
  rw [coord_of]
  exact pointState_hid (blocks_of m c t)

/-- Before the last point, the state carried past point `n` is the one after `7 n + 7` steps. -/
theorem carried_hid : ∀ (n : ℕ) (hn : n < cfg0.N), n < 8 → (outsAt0 m c n hn).2 = (argsOf m c).hidV (7 * n + 7)
  | 0, hn, _ => by
    rw [outsAt0_A m c ⟨0, hn⟩ rfl (show ¬0 % 9 = 8 by decide)]
    dsimp only
    rw [state_A, fill_hid]
    exact point_hid m c ⟨0, hn⟩
  | n + 1, hn, h => by
    have h0 : ¬(n + 1) % 9 = 0 := by omega
    have h8 : ¬(n + 1) % 9 = 8 := by omega
    rw [outsAt0_B m c ⟨n + 1, hn⟩ h0 h8]
    dsimp only
    rw [state_B]
    have ih := carried_hid n (Nat.lt_of_succ_lt hn) (by omega)
    refine (congrArg _ ?_).trans (point_hid m c ⟨n + 1, hn⟩)
    exact ih

/-- The result is the projection of the state after 63 steps. -/
theorem kernel_value :
    Cert.KernelIdeal.Value.G8 m c = (argsOf m c).projectV ((argsOf m c).hid 63) := by
  have hN : 8 < cfg0.N := lt_of_lt_of_eq (by decide) N_0.symm
  rw [Cert.KernelIdeal.Value.G8_last, ← Cert.KernelIdeal.Value.outsAt0_sweep m c 8 hN,
    outsAt0_C m c ⟨8, hN⟩ (show ¬8 % 9 = 0 by decide) rfl]
  dsimp only
  rw [output_C]
  have ih := carried_hid m c 7 (by omega) (by decide)
  have hs := (congrArg (pointState (BitVec.ofNat 32 (grid0.coords ⟨8, hN⟩ 0)) (iblk m c 0 ⟨8, hN⟩) (X0_1 m c ⟨8, hN⟩)
    (iblk m c 3 ⟨8, hN⟩) (iblk m c 4 ⟨8, hN⟩) (iblk m c 5 ⟨8, hN⟩)) ih).trans (point_hid m c ⟨8, hN⟩)
  exact (congrArg (fun h => k0_pay2 h _ _ _ _) hs).trans
    (output_project ((argsOf m c).hid 63) _ (block_lw m c _) _ (block_d m c _) _ (block_lb m c _))

end

end Cert.Rnn
-- ==== Proof.RefValue.lean ====
module

public import proofs.«01_k».proof.Proof.KernelValue
public import proofs.«01_k».proof.Proof.Gen.ReferenceIdeal.StepRun

/-! The reference's result: the projection of the hidden state after 64 steps of the recurrence. -/

@[expose] public section

set_option maxRecDepth 16384

open Idealize.ShloMosaic Idealize.ShloMosaic.TcCoe Idealize.ShloMosaic.Tactic
open Cert.ReferenceIdeal Cert.ReferenceIdeal.Gen Cert.ReferenceIdeal.Step

namespace Cert.Rnn

noncomputable section

/-- A start in `0 … 63` is its own value when read signed and clamped into that range. -/
theorem start_eq (k : Fin 64) : (min (max (BitVec.ofNat 32 k.val).toInt 0) ((64 - 1 : ℕ) : ℤ)).toNat = k.val := by
  revert k; decide

/-- What step `k` reads of the inputs, at row `n` and feature `f`. -/
theorem ref_input (k : Fin 64) (s : State Ideal) (n : Fin 512) (f : Fin 768) :
    b3 k.val s (ix2 n f) = s.main_v5_0 (ix3 k n f) := by
  pointwise [b3, b2, b1, b0]
  have hix : ∀ a b c, a = k → b = n → c = f → ix3 a b c = ix3 k n f := by
    rintro _ _ _ rfl rfl rfl; rfl
  exact congrArg s.main_v5_0 (hix _ _ _ (Fin.ext (start_eq k)) (Fin.ext (Nat.zero_add _)) (Fin.ext (Nat.zero_add _)))

/-- The time step `k` compares the lengths with is `k`. -/
theorem ref_time (k : Fin 64) (s : State Ideal) (i : S_.Idx) :
    b5 k.val s i = BitVec.ofNat 32 k.val := by
  pointwise [b5, b4, K_main_v4]
  exact congrArg (BitVec.ofNat 32) (start_eq k)

/-- The array of inputs the loop reads, at time `k`, row `n` and feature `f`. -/
theorem ref_arg (A : Args) (k : Fin 64) (n : Fin 512) (f : Fin 768) :
    A_main_v1 (F := Ideal) A.u A.len (ix3 k n f) = A.input k.val n f := by
  pointwise [A_main_v1, A_main_v0]
  exact congrArg (fun t => A.u (ix4 _ t _ f)) (Fin.ext (Nat.mod_eq_of_lt k.isLt).symm)

/-- The array of lengths the loop reads, at row `n`. -/
theorem ref_len (A : Args) (n : Fin 512) : A_main_v2 (F := Ideal) A.u A.len (ix1 n) = A.lenOf n := by
  pointwise [A_main_v2]
  rfl

/-- The hidden state step `k` leaves, at row `n` and feature `j`, from the state it finds. -/
theorem ref_row (k : Fin 64) (s : State Ideal) (n : Fin 512) (j : Fin 768) :
    b22 k.val s (ix2 n j) = Scalar.select (IntOp.cmpi .slt (BitVec.ofNat 32 k.val) (s.main_v5_6 (ix1 n)))
      (Ideal.tanh (∑ f, s.main_v5_0 (ix3 k n f) * s.main_v5_2 (ix2 j f) + s.main_v5_3 (ix1 j)
        + ∑ f, s.main_v5_8 (ix2 n f) * s.main_v5_4 (ix2 j f) + s.main_v5_5 (ix1 j)))
      (s.main_v5_8 (ix2 n j)) := by
  pointwise [b22, b21, b20, b19, b18, b17, b16, b15, b14, b13, b12, b11, b10, b9, b8, b7, b6]
  simp only [ref_time, ref_input]

/-- The state the loop holds after `k` steps: the hidden state of the recurrence, and the arrays no step changes. -/
def refState (A : Args) (k : ℕ) : State Ideal :=
  { init A.wih A.bih A.whh A.bhh A.u A.len with main_v5_8 := A.hidV k }

/-- The loop starts from the zero state. -/
theorem refState_zero (A : Args) : refState A 0 = init A.wih A.bih A.whh A.bhh A.u A.len := by
  have h : A.hidV 0 = K_main_v3 (F := Ideal) := by
    funext i
    pointwise [K_main_v3, K_main_cst]
    rfl
  unfold refState
  rw [h]
  rfl

/-- What step `k` makes of the state after `k` steps, at row `n` and feature `j`: the recurrence's next value. -/
theorem ref_hid (A : Args) (k : Fin 64) (n : Fin 512) (j : Fin 768) :
    b22 k.val (refState A k.val) (ix2 n j) = A.hid (k.val + 1) n j := by
  refine (ref_row k _ n j).trans ?_
  show Scalar.select (IntOp.cmpi .slt (BitVec.ofNat 32 k.val) (A_main_v2 (F := Ideal) A.u A.len (ix1 n)))
    (Ideal.tanh (∑ f, A_main_v1 (F := Ideal) A.u A.len (ix3 k n f) * A.wih (ix2 j f) + A.bih (ix1 j)
      + ∑ f, A.hid k.val n f * A.whh (ix2 j f) + A.bhh (ix1 j))) (A.hid k.val n j) = _
  simp only [ref_arg, ref_len]
  rfl

/-- Each of the 64 steps takes the state one step of the recurrence further. -/
theorem refState_succ (A : Args) (k : Fin 64) : step k.val (refState A k.val) = refState A (k.val + 1) := by
  have h : b22 k.val (refState A k.val) = A.hidV (k.val + 1) := by
    funext i
    rw [eq_ix2 i]
    exact ref_hid A k (i 0) (i 1)
  unfold step
  rw [h]
  rfl

/-- A sequence of states that starts as the loop does and goes on by its steps. -/
def refIter (A : Args) : ℕ → State Ideal
  | 0 => init A.wih A.bih A.whh A.bhh A.u A.len
  | k + 1 => step k (refIter A k)

/-- For 64 steps that sequence is the recurrence's. -/
theorem refIter_eq (A : Args) : ∀ k ≤ 64, refIter A k = refState A k
  | 0, _ => (refState_zero A).symm
  | k + 1, h => by rw [refIter, refIter_eq A k (by omega)]; exact refState_succ A ⟨k, h⟩

/-- The reference's result from a hidden state is that state's projection. -/
theorem ref_project (A : Args) (h : Fin 512 → Fin 768 → EReal) (s : State Ideal)
    (hs : s.main_v5_8 = fun i => h (i 0) (i 1)) (b : Fin 16) (l : Fin 32) (j : Fin 768) :
    R_main_v13 (F := Ideal) s A.d A.lw A.lb (ix3 b l j) = A.project h b l j := by
  pointwise [R_main_v13]
  rw [hs]
  rfl

/-- The reference's result: the projection of the state after 64 steps. -/
theorem ref_value (A : Args) :
    R_main_v13 (F := Ideal) (refIter A 64) A.d A.lw A.lb = A.projectV (A.hid 64) := by
  rw [refIter_eq A 64 le_rfl]
  funext i
  rw [eq_ix3 i]
  exact ref_project A (A.hid 64) (refState A 64) rfl (i 0) (i 1) (i 2)

/-- When every length is at most 63, the 64th step changes nothing, so both results are the same. -/
theorem hid_last (A : Args) (h : ∀ n, (A.lenOf n).toInt ≤ 63) : A.hid 64 = A.hid 63 := by
  funext n j
  exact A.hid_succ_of_le 63 n (h n) (by decide) j

end

end Cert.Rnn
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.StepRun
public import proofs.«01_k».proof.Proof.KernelValue
public import proofs.«01_k».proof.Proof.RefValue
public import Idealize.ShloMosaic.Adequacy
public import Idealize.ShloMosaic.Init
public import Idealize.ShloMosaic.Lib.Quiescent

/-! The five claims: each program runs and leaves its arguments unchanged, the idealized kernel is the kernel's own
text, and from equal arguments with every length at most 63 the kernel and the reference end with the same result. -/

@[expose] public section

noncomputable section

namespace Cert.Proof

open Idealize.ShloMosaic Idealize.SL.Sem Cert.Rnn

/-- The side condition the precondition states: one number spreads over the array of lengths. -/
theorem facts_short : Cert.Pre_short.Facts := ⟨by decide⟩

/-- A memory the precondition holds of has every row's length at most 63. -/
theorem short_len [Cert.Pre_short.Facts]
    (m : (ℓ : Loc Cert.KernelIdeal.nD Cert.KernelIdeal.τ Cert.KernelIdeal.sig) → Buf (Elt Ideal) ℓ)
    (h : Cert.Pre_KernelIdeal_short m) (c : Dev Cert.KernelIdeal.nD) (n : Fin 512) :
    ((argsOf m c).lenOf n).toInt ≤ 63 := by
  have hn : IntOp.cmpi .sle ((argsOf m c).lenOf n) 63#32 = 1#1 :=
    congrFun (h c) (ix2 (Args.batchOf n) (Args.placeOf n))
  have hs : ((argsOf m c).lenOf n).sle 63#32 = true := by
    by_contra hf
    rw [Bool.not_eq_true] at hf
    rw [show IntOp.cmpi .sle ((argsOf m c).lenOf n) 63#32
      = BitVec.ofBool (((argsOf m c).lenOf n).sle 63#32) from rfl, hf] at hn
    exact absurd hn (by decide)
  rw [BitVec.sle, decide_eq_true_eq] at hs
  exact hs

/-- The reference runs, leaves its arguments unchanged and every semaphore at zero. -/
theorem reference_frame : quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From equal arguments with every length at most 63, the kernel and the reference end with the same result. -/
theorem algebraic [Cert.Pre_short.Facts] : algebraic_KernelIdeal_ReferenceIdeal_pre_short := by
  intro m ρ m' ρ' hpre hagree
  refine ⟨_, Cert.KernelIdeal.Value.run (F := Ideal) m ρ, ?_⟩
  have hrun := Cert.ReferenceIdeal.StepRun.run_iter (F := Ideal) m' ρ' (fun c => refIter (argsOf m c))
    (fun c => by
      obtain ⟨h0, -, h2, h3, h4, h5, h6, -, -⟩ := hagree c
      simp only [Cert.ReferenceIdeal.StepRun.initState, h0, h2, h3, h4, h5, h6]
      rfl)
    (fun c k => rfl)
  refine (θ_run Cert.ReferenceIdeal.defs _ _).mono (fun _ h c => ⟨(h c).1.trans ?_, (h c).2⟩) hrun
  obtain ⟨-, h1, -, -, -, -, -, h7, h8⟩ := hagree c
  rw [h1, h7, h8, kernel_value m c, ← hid_last (argsOf m c) (short_len m hpre c)]
  exact ref_value (argsOf m c)

/-- All claims together. -/
theorem claim : Cert.Claim :=
  ⟨Cert.Kernel.Gen.facts, Cert.KernelIdeal.Gen.facts, Cert.ReferenceIdeal.Gen.facts, facts_short,
    fun m ρ _ => Cert.Kernel.Gen.frame m ρ,
    fun m ρ _ => Cert.KernelIdeal.Gen.frame m ρ, fun m ρ _ => Cert.KernelIdeal.Gen.frame m ρ,
    reference_frame, fun m ρ _ => reference_frame m ρ trivial,
    (trivial : preserves_Kernel_KernelIdeal),
    @algebraic facts_short⟩

end Cert.Proof

end
